-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_normal [hPre_scales_normal : Cert.Pre_scales_normal.Facts] (m : (ℓ : Loc Cert.KernelIdeal.nD Cert.KernelIdeal.τ Cert.KernelIdeal.sig) → Buf (Elt Ideal) ℓ) : Prop :=
  ∀ c : Dev Cert.KernelIdeal.nD,
    (Cert.Pre_scales_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_scales_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_normal [hPre_scales_normal : Cert.Pre_scales_normal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_scales_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scales_normal [hKernelIdeal : Cert.KernelIdeal.Facts] [hPre_scales_normal : Cert.Pre_scales_normal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_normal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scales_normal [hReferenceIdeal : Cert.ReferenceIdeal.Facts] [hPre_scales_normal : Cert.Pre_scales_normal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_normal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scales_normal [hKernelIdeal : Cert.KernelIdeal.Facts] [hReferenceIdeal : Cert.ReferenceIdeal.Facts] [hPre_scales_normal : Cert.Pre_scales_normal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_normal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scales_normal : Cert.Pre_scales_normal.Facts),
    quiescent_Kernel (hKernel := hKernel)
    ∧ quiescent_KernelIdeal (hKernelIdeal := hKernelIdeal)
    ∧ quiescent_KernelIdeal_pre_scales_normal (hKernelIdeal := hKernelIdeal) (hPre_scales_normal := hPre_scales_normal)
    ∧ quiescent_ReferenceIdeal (hReferenceIdeal := hReferenceIdeal)
    ∧ quiescent_ReferenceIdeal_pre_scales_normal (hReferenceIdeal := hReferenceIdeal) (hPre_scales_normal := hPre_scales_normal)
    ∧ preserves_Kernel_KernelIdeal
    ∧ algebraic_KernelIdeal_ReferenceIdeal_pre_scales_normal (hKernelIdeal := hKernelIdeal) (hReferenceIdeal := hReferenceIdeal) (hPre_scales_normal := hPre_scales_normal)
-- ==== Pre_scales_normal.lean ====
abbrev S6x131072x448 : Shape := ⟨3, ![6, 131072, 448]⟩
abbrev S6x1024x448 : Shape := ⟨3, ![6, 1024, 448]⟩
abbrev S6x131072x480 : Shape := ⟨3, ![6, 131072, 480]⟩
abbrev S6x1024x480 : Shape := ⟨3, ![6, 1024, 480]⟩
abbrev S448x480 : Shape := ⟨2, ![448, 480]⟩
abbrev S_ : Shape := ⟨0, ![]⟩

class Facts : Prop where
  bcast_S_S6x1024x448 : S_.BroadcastsInDim S6x1024x448 (![] : Fin 0 → Fin S6x1024x448.rank)
  bcast_S_S6x1024x480 : S_.BroadcastsInDim S6x1024x480 (![] : Fin 0 → Fin S6x1024x480.rank)

variable [Facts]

def fn {F : FTy → Type} [FloatOps F] (main_arg0 : FVec F S6x131072x448 .fp8e4m3) (main_arg1 : IVec S6x1024x448 8) (main_arg2 : FVec F S6x131072x480 .fp8e5m2) (main_arg3 : IVec S6x1024x480 8) (main_arg4 : FVec F S448x480 .f32) : IVec S6x1024x448 1 × IVec S6x1024x480 1 :=
  let main_c : IVec S_ 8 := constantI S_ 8 1#8
  let main_v0 : IVec S6x1024x448 8 := broadcastInDim S6x1024x448 ![] bcast_S_S6x1024x448 main_c
  let main_v1 : IVec S6x1024x448 1 := cmpi .uge main_arg1 main_v0
  let main_c_0 : IVec S_ 8 := constantI S_ 8 254#8
  let main_v2 : IVec S6x1024x448 8 := broadcastInDim S6x1024x448 ![] bcast_S_S6x1024x448 main_c_0
  let main_v3 : IVec S6x1024x448 1 := cmpi .ule main_arg1 main_v2
  let main_v4 : IVec S6x1024x448 1 := andi main_v1 main_v3
  let main_c_1 : IVec S_ 8 := constantI S_ 8 1#8
  let main_v5 : IVec S6x1024x480 8 := broadcastInDim S6x1024x480 ![] bcast_S_S6x1024x480 main_c_1
  let main_v6 : IVec S6x1024x480 1 := cmpi .uge main_arg3 main_v5
  let main_c_2 : IVec S_ 8 := constantI S_ 8 254#8
  let main_v7 : IVec S6x1024x480 8 := broadcastInDim S6x1024x480 ![] bcast_S_S6x1024x480 main_c_2
  let main_v8 : IVec S6x1024x480 1 := cmpi .ule main_arg3 main_v7
  let main_v9 : IVec S6x1024x480 1 := andi main_v6 main_v8
  (main_v4, main_v9)
-- ==== Kernel.lean ====
abbrev S6x131072x448 : Shape := ⟨3, ![6, 131072, 448]⟩
abbrev S6x1024x448 : Shape := ⟨3, ![6, 1024, 448]⟩
abbrev S6x131072x480 : Shape := ⟨3, ![6, 131072, 480]⟩
abbrev S6x1024x480 : Shape := ⟨3, ![6, 1024, 480]⟩
abbrev S448x480 : Shape := ⟨2, ![448, 480]⟩
abbrev S6x448x131072 : Shape := ⟨3, ![6, 448, 131072]⟩
abbrev S6x448x1024 : Shape := ⟨3, ![6, 448, 1024]⟩
abbrev S6x480x131072 : Shape := ⟨3, ![6, 480, 131072]⟩
abbrev S6x480x1024 : Shape := ⟨3, ![6, 480, 1024]⟩
abbrev S1x448x16384 : Shape := ⟨3, ![1, 448, 16384]⟩
abbrev S1x448x128 : Shape := ⟨3, ![1, 448, 128]⟩
abbrev S1x480x16384 : Shape := ⟨3, ![1, 480, 16384]⟩
abbrev S1x480x128 : Shape := ⟨3, ![1, 480, 128]⟩
abbrev S448x128 : Shape := ⟨2, ![448, 128]⟩
abbrev S224x128 : Shape := ⟨2, ![224, 128]⟩
abbrev S480x128 : Shape := ⟨2, ![480, 128]⟩
abbrev S240x128 : Shape := ⟨2, ![240, 128]⟩
abbrev S224x1 : Shape := ⟨2, ![224, 1]⟩
abbrev S240x1 : Shape := ⟨2, ![240, 1]⟩
abbrev S448x2048 : Shape := ⟨2, ![448, 2048]⟩
abbrev S480x2048 : Shape := ⟨2, ![480, 2048]⟩

abbrev nBuf : Space → Nat
  | .hbm => 10
  | .vmem => 10
  | .smem => 0
  | _ => 0

abbrev bufTy : (tb : Table) → Fin (tcTables nBuf tb) → BufTy
  | .hbm, ⟨0, _⟩ => ⟨S6x131072x448, .fp8e4m3⟩
  | .hbm, ⟨1, _⟩ => ⟨S6x1024x448, .i8⟩
  | .hbm, ⟨2, _⟩ => ⟨S6x131072x480, .fp8e5m2⟩
  | .hbm, ⟨3, _⟩ => ⟨S6x1024x480, .i8⟩
  | .hbm, ⟨4, _⟩ => ⟨S448x480, .f32⟩
  | .hbm, ⟨5, _⟩ => ⟨S6x448x131072, .fp8e4m3⟩
  | .hbm, ⟨6, _⟩ => ⟨S6x448x1024, .i8⟩
  | .hbm, ⟨7, _⟩ => ⟨S6x480x131072, .fp8e5m2⟩
  | .hbm, ⟨8, _⟩ => ⟨S6x480x1024, .i8⟩
  | .hbm, ⟨9, _⟩ => ⟨S448x480, .f32⟩
  | .local _ .vmem, ⟨0, _⟩ => ⟨S1x448x16384, .fp8e4m3⟩
  | .local _ .vmem, ⟨1, _⟩ => ⟨S1x448x16384, .fp8e4m3⟩
  | .local _ .vmem, ⟨2, _⟩ => ⟨S1x448x128, .i8⟩
  | .local _ .vmem, ⟨3, _⟩ => ⟨S1x448x128, .i8⟩
  | .local _ .vmem, ⟨4, _⟩ => ⟨S1x480x16384, .fp8e5m2⟩
  | .local _ .vmem, ⟨5, _⟩ => ⟨S1x480x16384, .fp8e5m2⟩
  | .local _ .vmem, ⟨6, _⟩ => ⟨S1x480x128, .i8⟩
  | .local _ .vmem, ⟨7, _⟩ => ⟨S1x480x128, .i8⟩
  | .local _ .vmem, ⟨8, _⟩ => ⟨S448x480, .f32⟩
  | .local _ .vmem, ⟨9, _⟩ => ⟨S448x480, .f32⟩
  | _, _ => ⟨S6x131072x448, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨2, ![6, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x448x16384 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x448x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x480x16384 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x480x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S448x480 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S448x480 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== ReferenceIdeal.lean ====
abbrev S6x131072x448 : Shape := ⟨3, ![6, 131072, 448]⟩
abbrev S6x1024x448 : Shape := ⟨3, ![6, 1024, 448]⟩
abbrev S6x131072x480 : Shape := ⟨3, ![6, 131072, 480]⟩
abbrev S6x1024x480 : Shape := ⟨3, ![6, 1024, 480]⟩
abbrev S448x480 : Shape := ⟨2, ![448, 480]⟩
abbrev S6x1024x128x448 : Shape := ⟨4, ![6, 1024, 128, 448]⟩
abbrev S6x1024x1x448 : Shape := ⟨4, ![6, 1024, 1, 448]⟩
abbrev S6x1024x128x480 : Shape := ⟨4, ![6, 1024, 128, 480]⟩
abbrev S6x1024x1x480 : Shape := ⟨4, ![6, 1024, 1, 480]⟩

abbrev nBuf : Space → Nat
  | .hbm => 6
  | .vmem => 6
  | .smem => 0
  | _ => 0

abbrev bufTy : (tb : Table) → Fin (tcTables nBuf tb) → BufTy
  | .hbm, ⟨0, _⟩ => ⟨S6x131072x448, .fp8e4m3⟩
  | .hbm, ⟨1, _⟩ => ⟨S6x1024x448, .i8⟩
  | .hbm, ⟨2, _⟩ => ⟨S6x131072x480, .fp8e5m2⟩
  | .hbm, ⟨3, _⟩ => ⟨S6x1024x480, .i8⟩
  | .hbm, ⟨4, _⟩ => ⟨S448x480, .f32⟩
  | .hbm, ⟨5, _⟩ => ⟨S448x480, .f32⟩
  | .local _ .vmem, ⟨0, _⟩ => ⟨S6x131072x448, .fp8e4m3⟩
  | .local _ .vmem, ⟨1, _⟩ => ⟨S6x1024x448, .i8⟩
  | .local _ .vmem, ⟨2, _⟩ => ⟨S6x131072x480, .fp8e5m2⟩
  | .local _ .vmem, ⟨3, _⟩ => ⟨S6x1024x480, .i8⟩
  | .local _ .vmem, ⟨4, _⟩ => ⟨S448x480, .f32⟩
  | .local _ .vmem, ⟨5, _⟩ => ⟨S448x480, .f32⟩
  | _, _ => ⟨S6x131072x448, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6x131072x448 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x1024x448 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x131072x480 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x1024x480 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S448x480 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S448x480 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Scale.lean ====
/-
  The scale of one block: a biased exponent `e`, one byte.

  The kernel shifts `e` left by seven bits and reads the low sixteen bits as a bfloat16 number
  (`shiftedScale`). The reference takes two to the power `e - 127` (`powerScale`). For `e` from 1 to 254 the
  two are one number (`shiftedScale_eq`): the shifted pattern has sign 0, exponent field `e` and fraction 0.
-/
module

public import Idealize.ShloMosaic.PureOps.Ideal

@[expose] public section

noncomputable section

namespace Cert.Wgrad

open Idealize.ShloMosaic

/-- The sixteen bits the kernel makes of a biased exponent. -/
def scaleBits (e : BitVec 8) : BitVec 16 := ((e.setWidth 32) <<< (7#32 : BitVec 32)).setWidth 16

/-- The kernel's scale: those bits read as a bfloat16 number. -/
def shiftedScale (e : BitVec 8) : EReal := Ideal.ofBits .bf16 (scaleBits e)

/-- The reference's scale: two to the power of the exponent less its bias. -/
def powerScale (e : BitVec 8) : EReal := Ideal.exp2 ((((e.setWidth 32 - 127#32).toInt : ℝ)) : EReal)

/-- The three fields of the shifted pattern. -/
theorem scaleBits_fields : ∀ e : BitVec 8, (scaleBits e).extractLsb' 15 1 = 0#1
    ∧ ((scaleBits e).extractLsb' 7 8).toNat = e.toNat ∧ ((scaleBits e).extractLsb' 0 7).toNat = 0 := by
  decide +kernel

/-- The exponent less its bias does not wrap. -/
theorem unbias : ∀ e : BitVec 8, (e.setWidth 32 - 127#32).toInt = (e.toNat : ℤ) - 127 := by
  decide +kernel

/-- For a biased exponent from 1 to 254 the kernel's scale is the reference's. -/
theorem shiftedScale_eq (e : BitVec 8) (h1 : 1 ≤ e.toNat) (h2 : e.toNat ≤ 254) : shiftedScale e = powerScale e := by
  obtain ⟨hs, hx, hf⟩ := scaleBits_fields e
  have hp : powerScale e = (((2 : ℝ) ^ ((e.toNat : ℤ) - 127) : ℝ) : EReal) := by
    unfold powerScale
    rw [unbias]
    show ((Real.rpow 2 (((e.toNat : ℤ) - 127 : ℤ) : ℝ) : ℝ) : EReal) = _
    rw [Real.rpow_eq_pow, Real.rpow_intCast]
  rw [hp]
  unfold shiftedScale
  show Ideal.ieee 8 7 (scaleBits e) = _
  unfold Ideal.ieee
  dsimp only
  rw [show (8 + 7 : ℕ) = 15 from rfl, hs, hx, hf]
  rw [if_neg (by norm_num; omega), if_neg (by omega)]
  congr 1
  have : ((e.toNat : ℤ) - 127) = ((e.toNat : ℤ) - (2 ^ (8 - 1) - 1) - (7 : ℕ)) + 7 := by norm_num
  rw [this, zpow_add₀ (by norm_num)]
  norm_num
  ring

end Cert.Wgrad

end
-- ==== Proof.Tile.lean ====
/-
  One tile of the kernel: 128 tokens of `M` rows, dequantised.

  The kernel packs the sixteen-bit scales of two neighbouring rows into one 32-bit word, takes one column of those
  words, spreads it over 128 columns and reads the words as sixteen-bit numbers again. Row `i` of the result is row
  `i` of the scales (`tile_apply`): the packing and the unpacking undo each other.
-/
module

public import proofs.«01_k».proof.Proof.Scale
public import Idealize.ShloMosaic.Lib.BitcastPair
public import Idealize.ShloMosaic.Lib.ValueIdx
public import Idealize.ShloMosaic.Lib.ValueLayout

@[expose] public section

noncomputable section

namespace Cert.Wgrad

open Idealize.ShloMosaic Idealize.ShloMosaic.ValueIdx

/-- The packed scale words of a block: row pairs of the sixteen-bit scales. -/
def words (M H : Nat) (e : IVec ⟨3, ![1, M, 128]⟩ 8) (hc : (⟨3, ![1, M, 128]⟩ : Shape).ShapeCasts ⟨2, ![M, 128]⟩)
    (hw : 8 < 32) (hn : 16 < 32) (hb : (⟨2, ![M, 128]⟩ : Shape).Bitcasts 16 ⟨2, ![H, 128]⟩ 32) : IVec ⟨2, ![H, 128]⟩ 32 :=
  bitcast ⟨2, ![H, 128]⟩ 32
    (trunci 16 (shli (extui 32 (shapeCast ⟨2, ![M, 128]⟩ e hc) hw) (broadcast ⟨2, ![M, 128]⟩ 7#32)) hn) hb

/-- One dequantised tile: the codes times the scales of column `r`, spread over the tile's columns. -/
def tile (M H : Nat) (φ : FTy) (w : IVec ⟨2, ![H, 128]⟩ 32) (v : FVec Ideal ⟨3, ![1, M, 128]⟩ φ) (r : Nat)
    (hc : (⟨3, ![1, M, 128]⟩ : Shape).ShapeCasts ⟨2, ![M, 128]⟩) (hφ : φ.bits < FTy.bf16.bits)
    (hs : (⟨2, ![H, 128]⟩ : Shape).Slices ![0, r] ⟨2, ![H, 1]⟩)
    (hcc : (⟨2, ![H, 1]⟩ : Shape).ShapeCasts ⟨2, ![H, 1]⟩)
    (hbr : (⟨2, ![H, 1]⟩ : Shape).Broadcasts ⟨2, ![H, 128]⟩)
    (hb : (⟨2, ![H, 128]⟩ : Shape).Bitcasts 32 ⟨2, ![M, 128]⟩ 16) : FVec Ideal ⟨2, ![M, 128]⟩ .bf16 :=
  mulf (extf .bf16 (shapeCast ⟨2, ![M, 128]⟩ v hc) hφ)
    (bitcastToFloat .bf16 (bitcast ⟨2, ![M, 128]⟩ 16
      (broadcastTo ⟨2, ![H, 128]⟩ (shapeCast ⟨2, ![H, 1]⟩ (extractStridedSlice ⟨2, ![H, 1]⟩ ![0, r] w hs) hcc) hbr) hb))

/-- The low half of a pair. -/
theorem low_half (hi lo : BitVec 16) : (hi ++ lo).extractLsb' 0 16 = lo := by
  apply BitVec.eq_of_getLsbD_eq
  intro i hi'
  rw [BitVec.getLsbD_extractLsb', BitVec.getLsbD_append]
  simp only [Nat.zero_add, hi', decide_true, Bool.true_and, if_true]

/-- The high half of a pair. -/
theorem high_half (hi lo : BitVec 16) : (hi ++ lo).extractLsb' 16 16 = hi := by
  apply BitVec.eq_of_getLsbD_eq
  intro i hi'
  rw [BitVec.getLsbD_extractLsb', BitVec.getLsbD_append, if_neg (by omega), Nat.add_sub_cancel_left]
  simp only [hi', decide_true, Bool.true_and]

/-- A tile at row `i` and column `k`: the code there times the scale of row `i`, column `r`. -/
theorem tile_apply (M H : Nat) (φ : FTy) (e : IVec ⟨3, ![1, M, 128]⟩ 8) (v : FVec Ideal ⟨3, ![1, M, 128]⟩ φ) (r : Fin 128)
    (hc hw hn hb1 hc' hφ hs hcc hbr hb) (i : Fin M) (k : Fin 128) :
    tile M H φ (words M H e hc hw hn hb1) v r.val hc' hφ hs hcc hbr hb (ix2 i k)
      = v (ix3 0 i k) * shiftedScale (e (ix3 0 i r)) := by
  have hrow : (⟨2, ![M, 128]⟩ : Shape).row (ix2 i k) = i.val := rfl
  have hMH : M * 16 = H * 32 := by
    obtain ⟨_, _, h⟩ := hb1
    exact h (0 : Fin 2)
  have hi2 : i.val / 2 < H := by have := i.isLt; omega
  show shapeCast ⟨2, ![M, 128]⟩ v hc' (ix2 i k) * Ideal.ofBits .bf16 (bitcast ⟨2, ![M, 128]⟩ 16 _ hb (ix2 i k)) = _
  rw [shapeCast_1ab_ab_apply, bitcast_32_16]
  unfold shiftedScale
  congr 2
  have e1 : ∀ hp, hb.srcIdx (ix2 i k) ((⟨2, ![M, 128]⟩ : Shape).row (ix2 i k) / 2) hp = ix2 ⟨i.val / 2, hi2⟩ k := by
    intro hp
    funext a; apply Fin.ext
    match a with
    | ⟨0, _⟩ => rfl
    | ⟨1, _⟩ => rfl
  rw [e1]
  have e2 : broadcastTo ⟨2, ![H, 128]⟩ (shapeCast ⟨2, ![H, 1]⟩ (extractStridedSlice ⟨2, ![H, 1]⟩ ![0, r.val]
      (words M H e hc hw hn hb1) hs) hcc) hbr (ix2 ⟨i.val / 2, hi2⟩ k) = words M H e hc hw hn hb1 (ix2 ⟨i.val / 2, hi2⟩ r) := by
    rw [shapeCast_self, broadcastTo_apply _ hbr _ (ix2 ⟨i.val / 2, hi2⟩ (0 : Fin 1)) (fun a => by
        match a with
        | ⟨0, _⟩ =>
          show i.val / 2 = if H = 1 then 0 else i.val / 2
          split <;> omega
        | ⟨1, _⟩ => rfl)]
    exact extractStridedSlice_apply _ _ hs _ _ (fun a => by
      match a with
      | ⟨0, _⟩ => exact (Nat.zero_add _).symm
      | ⟨1, _⟩ => rfl)
  rw [e2, hrow]
  unfold words
  rw [bitcast_16_32]
  have hval : ∀ q : Fin M, (trunci 16 (shli (extui 32 (shapeCast ⟨2, ![M, 128]⟩ e hc) hw) (broadcast ⟨2, ![M, 128]⟩ 7#32)) hn
      : IVec ⟨2, ![M, 128]⟩ 16) (ix2 q r) = scaleBits (e (ix3 0 q r)) := by
    intro q
    rw [← shapeCast_1ab_ab_apply e hc q r]
    rfl
  have e3 : ∀ (p : Nat) (hpM : p < M) (hp), hb1.srcIdx (ix2 ⟨i.val / 2, hi2⟩ r) p hp = ix2 ⟨p, hpM⟩ r := by
    intro p hpM hp
    funext a; apply Fin.ext
    match a with
    | ⟨0, _⟩ => rfl
    | ⟨1, _⟩ => rfl
  have hr2 : (⟨2, ![H, 128]⟩ : Shape).row (ix2 ⟨i.val / 2, hi2⟩ r) = i.val / 2 := rfl
  rw [e3 _ (by rw [hr2]; have := i.isLt; omega), e3 _ (by rw [hr2]; have := i.isLt; omega), hval, hval]
  rcases Nat.mod_two_eq_zero_or_one i.val with h | h
  · rw [h, Nat.mul_zero, low_half]
    congr 3
    apply Fin.ext
    show 2 * (i.val / 2) = i.val
    omega
  · rw [h, Nat.mul_one, high_half]
    congr 3
    apply Fin.ext
    show 2 * (i.val / 2) + 1 = i.val
    omega

end Cert.Wgrad

end
-- ==== Proof.Step.lean ====
/-
  One step of the kernel: sixteen tiles of each operand are laid side by side and multiplied, and the product is added
  to what the result held.

  At row `i` and column `o` the step adds the sum, over the sixteen tiles and the 128 tokens of each, of the products
  of the two tiles' elements (`step_apply`).
-/
module

public import proofs.«01_k».proof.Proof.Gen.KernelIdeal.Skeleton
public import proofs.«01_k».proof.Proof.Tile
public import Idealize.ShloMosaic.Lib.MatmulPlain

@[expose] public section

set_option maxRecDepth 16384

noncomputable section

namespace Cert.Wgrad

open Idealize.ShloMosaic Idealize.ShloMosaic.ValueIdx
open scoped BigOperators

/-- Sixteen pieces of 128 columns side by side, read at a column: piece `c / 128` at column `c % 128`. -/
theorem glued_apply (M : Nat) (A : Fin 16 → FVec Ideal ⟨2, ![M, 128]⟩ .bf16)
    (h : Shape.Concatenates ((List.ofFn fun n : Fin 16 => (⟨⟨2, ![M, 128]⟩, A n⟩ : (s : Shape) × (s.Idx → EReal))).map (·.1))
      ⟨2, ![M, 2048]⟩ 1) (i : Fin M) (n : Fin 16) (k : Fin 128) :
    concatenate ⟨2, ![M, 2048]⟩ 1 (List.ofFn fun n : Fin 16 => (⟨⟨2, ![M, 128]⟩, A n⟩ : (s : Shape) × (s.Idx → EReal))) h
      (ix2 i (⟨n.val * 128 + k.val, by have := n.isLt; have := k.isLt; omega⟩ : Fin 2048)) = A n (ix2 i k) := by
  refine concatenate_ofFn_apply (t := ⟨2, ![M, 2048]⟩) (s₁ := ⟨2, ![M, 128]⟩) 1 A h rfl 128 rfl _ n ?_ (ix2 i k) ?_ ?_
  · show (n.val * 128 + k.val) / 128 = n.val
    have := k.isLt; omega
  · show k.val = (n.val * 128 + k.val) % 128
    have := k.isLt; omega
  · intro b hb
    match b with
    | ⟨0, _⟩ => rfl
    | ⟨1, _⟩ => exact absurd rfl hb

/-- The step: the result so far plus the product of the two rows of sixteen tiles. -/
def step (A : Fin 16 → FVec Ideal ⟨2, ![448, 128]⟩ .bf16) (B : Fin 16 → FVec Ideal ⟨2, ![480, 128]⟩ .bf16)
    (acc : FVec Ideal ⟨2, ![448, 480]⟩ .f32)
    (hc : (⟨2, ![448, 480]⟩ : Shape).ShapeCasts ⟨2, ![448, 480]⟩)
    (hA : Shape.Concatenates ((List.ofFn fun n : Fin 16 => (⟨⟨2, ![448, 128]⟩, A n⟩ : (s : Shape) × (s.Idx → EReal))).map (·.1))
      ⟨2, ![448, 2048]⟩ 1)
    (hB : Shape.Concatenates ((List.ofFn fun n : Fin 16 => (⟨⟨2, ![480, 128]⟩, B n⟩ : (s : Shape) × (s.Idx → EReal))).map (·.1))
      ⟨2, ![480, 2048]⟩ 1) : FVec Ideal ⟨2, ![448, 480]⟩ .f32 :=
  addf (shapeCast ⟨2, ![448, 480]⟩ acc hc)
    (matmul (F := Ideal) (φ₁ := .bf16) (φ₂ := .bf16) (DotDims.transposedRhs 448 2048 480) none
      (concatenate ⟨2, ![448, 2048]⟩ 1 (List.ofFn fun n : Fin 16 => (⟨⟨2, ![448, 128]⟩, A n⟩ : (s : Shape) × (s.Idx → EReal))) hA)
      (concatenate ⟨2, ![480, 2048]⟩ 1 (List.ofFn fun n : Fin 16 => (⟨⟨2, ![480, 128]⟩, B n⟩ : (s : Shape) × (s.Idx → EReal))) hB)
      (constant ⟨2, ![448, 480]⟩ .f32 0x00000000#32))

/-- What the step adds at row `i` and column `o`. -/
theorem step_apply (A : Fin 16 → FVec Ideal ⟨2, ![448, 128]⟩ .bf16) (B : Fin 16 → FVec Ideal ⟨2, ![480, 128]⟩ .bf16)
    (acc : FVec Ideal ⟨2, ![448, 480]⟩ .f32) (hc hA hB) (i : Fin 448) (o : Fin 480) :
    step A B acc hc hA hB (ix2 i o)
      = acc (ix2 i o) + ∑ n : Fin 16, ∑ k : Fin 128, A n (ix2 i k) * B n (ix2 o k) := by
  unfold step
  rw [shapeCast_self]
  show acc (ix2 i o) + FloatOps.matmul (F := Ideal) (φ₁ := .bf16) (φ₂ := .bf16) (DotDims.transposedRhs 448 2048 480) none _ _ _ (ix2 i o) = _
  rw [Ideal.matmul_transposedRhs_apply]
  congr 1
  show Ideal.ofBits .f32 0x00000000#32 + _ = _
  rw [Ideal.ofBits_zero_f32, zero_add, ← Equiv.sum_comp (finProdFinEquiv (m := 16) (n := 128)), Fintype.sum_prod_type]
  refine Finset.sum_congr rfl fun n _ => Finset.sum_congr rfl fun k _ => ?_
  have e : (finProdFinEquiv (m := 16) (n := 128) (n, k) : Fin (16 * 128))
      = (⟨n.val * 128 + k.val, by have := n.isLt; have := k.isLt; omega⟩ : Fin 2048) := by
    apply Fin.ext
    show k.val + 128 * n.val = n.val * 128 + k.val
    omega
  rw [e]
  exact congrArg₂ (· * ·) (glued_apply 448 A hA i n k) (glued_apply 480 B hB o n k)

end Cert.Wgrad

end
-- ==== Proof.Point.lean ====
/-
  One grid point of the kernel: 16384 tokens of one batch entry, in eight steps of sixteen tiles.

  The point reads its block of the left codes `x0` and exponents `x1` and of the right ones `x2` and `x3`; what it
  leaves in the result is eight steps applied to what the result held (`out_B`), or at the first point to the initial
  gradient `x4` (`out_A`).
-/
module

public import proofs.«01_k».proof.Proof.Gen.KernelIdeal.Value
public import proofs.«01_k».proof.Proof.Step

@[expose] public section

set_option maxRecDepth 16384

noncomputable section

namespace Cert.KernelIdeal.WgradValue

open Cert.KernelIdeal Cert.KernelIdeal.Gen Cert.Wgrad Idealize.ShloMosaic Idealize.ShloMosaic.TcCoe Idealize.SL.Sem

theorem hz : (![0, 0] : Fin 2 → Nat) = fun _ => 0 := funext fun a => by fin_cases a <;> rfl

theorem hz3 : (![0, 0, 0] : Fin 3 → Nat) = fun _ => 0 := funext fun a => by fin_cases a <;> rfl

/-- Tile `n` of step `s` lies inside the block. -/
theorem inside (M : Nat) (s : Fin 8) (n : Fin 16) :
    ∀ a : Fin 3, (![0, 0, 128 * (16 * s.val + n.val)] : Fin 3 → Nat) a + (![1, M, 128] : Fin 3 → Nat) a ≤ (![1, M, 16384] : Fin 3 → Nat) a := by
  intro a
  have := s.isLt; have := n.isLt
  match a with
  | ⟨0, _⟩ => exact Nat.le_refl 1
  | ⟨1, _⟩ => exact le_of_eq (Nat.zero_add M)
  | ⟨2, _⟩ => show 128 * (16 * s.val + n.val) + 128 ≤ 16384; omega

/-- One column of the packed words lies inside them. -/
theorem column (H : Nat) (s : Fin 8) (n : Fin 16) :
    (⟨2, ![H, 128]⟩ : Shape).Slices ![0, 16 * s.val + n.val] ⟨2, ![H, 1]⟩ :=
  ⟨rfl, fun a => by
    have := s.isLt; have := n.isLt
    match a with
    | ⟨0, _⟩ => exact le_of_eq (Nat.zero_add H)
    | ⟨1, _⟩ => show 16 * s.val + n.val + 1 ≤ 128; omega⟩

/-- The codes of tile `n` of step `s`. -/
abbrev codes {φ : FTy} (M : Nat) (x : FVec Ideal ⟨3, ![1, M, 16384]⟩ φ) (s : Fin 8) (n : Fin 16) : FVec Ideal ⟨3, ![1, M, 128]⟩ φ :=
  fun y => x ((Rect.unit (s := ⟨3, ![1, M, 16384]⟩) ![0, 0, 128 * (16 * s.val + n.val)] ![1, M, 128] (inside M s n)).idx y)

/-- Left tile `n` of step `s`. -/
abbrev leftTile (x0 : Vec Ideal S1x448x16384 .fp8e4m3) (x1 : Vec Ideal S1x448x128 .i8) (s : Fin 8) (n : Fin 16) :
    FVec Ideal S448x128 .bf16 :=
  tile 448 224 .fp8e4m3 (words 448 224 x1 shapeCasts_S1x448x128_S448x128 natLt_8_32 natLt_16_32 bitcasts_S448x128_w16_S224x128_w32)
    (codes 448 x0 s n) (16 * s.val + n.val) shapeCasts_S1x448x128_S448x128 bitsLt_fp8e4m3_bf16 (column 224 s n)
    shapeCasts_S224x1_S224x1 broadcasts_S224x1_S224x128 bitcasts_S224x128_w32_S448x128_w16

/-- Right tile `n` of step `s`. -/
abbrev rightTile (x2 : Vec Ideal S1x480x16384 .fp8e5m2) (x3 : Vec Ideal S1x480x128 .i8) (s : Fin 8) (n : Fin 16) :
    FVec Ideal S480x128 .bf16 :=
  tile 480 240 .fp8e5m2 (words 480 240 x3 shapeCasts_S1x480x128_S480x128 natLt_8_32 natLt_16_32 bitcasts_S480x128_w16_S240x128_w32)
    (codes 480 x2 s n) (16 * s.val + n.val) shapeCasts_S1x480x128_S480x128 bitsLt_fp8e5m2_bf16 (column 240 s n)
    shapeCasts_S240x1_S240x1 broadcasts_S240x1_S240x128 bitcasts_S240x128_w32_S480x128_w16

/-- Step `s` of the point. -/
abbrev pointStep (x0 : Vec Ideal S1x448x16384 .fp8e4m3) (x1 : Vec Ideal S1x448x128 .i8) (x2 : Vec Ideal S1x480x16384 .fp8e5m2)
    (x3 : Vec Ideal S1x480x128 .i8) (s : Fin 8) (acc : Vec Ideal S448x480 .f32) : Vec Ideal S448x480 .f32 :=
  step (leftTile x0 x1 s) (rightTile x2 x3 s) acc shapeCasts_S448x480_S448x480
    concatenates_S448x128_S448x128_S448x128_S448x128_S448x128_S448x128_S448x128_S448x128_S448x128_S448x128_S448x128_S448x128_S448x128_S448x128_S448x128_S448x128_S448x2048_d1
    concatenates_S480x128_S480x128_S480x128_S480x128_S480x128_S480x128_S480x128_S480x128_S480x128_S480x128_S480x128_S480x128_S480x128_S480x128_S480x128_S480x128_S480x2048_d1

/-- The eight steps of a point, one after the other. -/
def pointOut (x0 : Vec Ideal S1x448x16384 .fp8e4m3) (x1 : Vec Ideal S1x448x128 .i8) (x2 : Vec Ideal S1x480x16384 .fp8e5m2)
    (x3 : Vec Ideal S1x480x128 .i8) (acc : Vec Ideal S448x480 .f32) : Vec Ideal S448x480 .f32 :=
  pointStep x0 x1 x2 x3 7 (pointStep x0 x1 x2 x3 6 (pointStep x0 x1 x2 x3 5 (pointStep x0 x1 x2 x3 4
    (pointStep x0 x1 x2 x3 3 (pointStep x0 x1 x2 x3 2 (pointStep x0 x1 x2 x3 1 (pointStep x0 x1 x2 x3 0 acc)))))))

set_option maxHeartbeats 4000000 in
/-- At the first point the kernel applies the eight steps to the initial gradient. -/
theorem out_A (c : Dev nD) (i : grid0.Coords) (a0 : Memref sig .tc .vmem S1x448x16384 .fp8e4m3) (h0 : a0.IsWhole)
    (a1 : Memref sig .tc .vmem S1x448x128 .i8) (h1 : a1.IsWhole) (a2 : Memref sig .tc .vmem S1x480x16384 .fp8e5m2) (h2 : a2.IsWhole)
    (a3 : Memref sig .tc .vmem S1x480x128 .i8) (h3 : a3.IsWhole) (a4 : Memref sig .tc .vmem S448x480 .f32) (h4 : a4.IsWhole)
    (a5 : Memref sig .tc .vmem S448x480 .f32) (h5 : a5.IsWhole) (hc : cond0_0 i)
    (x0 : Vec Ideal S1x448x16384 .fp8e4m3) (x1 : Vec Ideal S1x448x128 .i8) (x2 : Vec Ideal S1x480x16384 .fp8e5m2)
    (x3 : Vec Ideal S1x480x128 .i8) (x4 : Vec Ideal S448x480 .f32) :
    out0_A_5 c i a0 h0 a1 h1 a2 h2 a3 h3 a4 h4 a5 h5 hc x0 x1 x2 x3 x4 = pointOut x0 x1 x2 x3 x4 := by
  have e : pointOut x0 x1 x2 x3 x4 = pointOut (a0.view.read (Elt Ideal) (h0.unread x0))
      (View.ld (a1.view.read (Elt Ideal) (h1.unread x1)) (Rect.unit ![0, 0, 0] ![1, 448, 128] inb_S1x448x128_S1x448x128_0_0_0))
      (a2.view.read (Elt Ideal) (h2.unread x2))
      (View.ld (a3.view.read (Elt Ideal) (h3.unread x3)) (Rect.unit ![0, 0, 0] ![1, 480, 128] inb_S1x480x128_S1x480x128_0_0_0)) x4 := by
    rw [h0.read_unread, h1.read_unread, h2.read_unread, h3.read_unread, View.ld_unit_zero (S := S1x448x128) hz3,
      View.ld_unit_zero (S := S1x480x128) hz3]
  rw [e]
  unfold out0_A_5
  rw [View.read_writes_eq_canon _ _ _ (cover0_A_5 c i a0 h0 a1 h1 a2 h2 a3 h3 a4 h4 a5 h5 hc x0 x1 x2 x3 x4)]
  unfold kernelRun0_A
  dsimp only
  sl_unfold_words
  rw [View.canon_cons_unit_zero (S := S448x480) hz]
  simp only [View.readAt_eq_ld, View.readCov_cons_toLoadRect, View.ld_unit_zero (S := S448x480) hz, h4.read_unread, shapeCast_self]
  exact rfl

set_option maxHeartbeats 4000000 in
/-- At a point after the first the kernel applies the eight steps to what the result held. -/
theorem out_B (c : Dev nD) (i : grid0.Coords) (a0 : Memref sig .tc .vmem S1x448x16384 .fp8e4m3) (h0 : a0.IsWhole)
    (a1 : Memref sig .tc .vmem S1x448x128 .i8) (h1 : a1.IsWhole) (a2 : Memref sig .tc .vmem S1x480x16384 .fp8e5m2) (h2 : a2.IsWhole)
    (a3 : Memref sig .tc .vmem S1x480x128 .i8) (h3 : a3.IsWhole) (a4 : Memref sig .tc .vmem S448x480 .f32) (h4 : a4.IsWhole)
    (a5 : Memref sig .tc .vmem S448x480 .f32) (h5 : a5.IsWhole) (hc : ¬cond0_0 i)
    (x0 : Vec Ideal S1x448x16384 .fp8e4m3) (x1 : Vec Ideal S1x448x128 .i8) (x2 : Vec Ideal S1x480x16384 .fp8e5m2)
    (x3 : Vec Ideal S1x480x128 .i8) (x4 xo : Vec Ideal S448x480 .f32) :
    out0_B_5 c i a0 h0 a1 h1 a2 h2 a3 h3 a4 h4 a5 h5 hc x0 x1 x2 x3 x4 xo = pointOut x0 x1 x2 x3 xo := by
  have e : pointOut x0 x1 x2 x3 xo = pointOut (a0.view.read (Elt Ideal) (h0.unread x0))
      (View.ld (a1.view.read (Elt Ideal) (h1.unread x1)) (Rect.unit ![0, 0, 0] ![1, 448, 128] inb_S1x448x128_S1x448x128_0_0_0))
      (a2.view.read (Elt Ideal) (h2.unread x2))
      (View.ld (a3.view.read (Elt Ideal) (h3.unread x3)) (Rect.unit ![0, 0, 0] ![1, 480, 128] inb_S1x480x128_S1x480x128_0_0_0)) xo := by
    rw [h0.read_unread, h1.read_unread, h2.read_unread, h3.read_unread, View.ld_unit_zero (S := S1x448x128) hz3,
      View.ld_unit_zero (S := S1x480x128) hz3]
  rw [e]
  unfold out0_B_5
  rw [View.read_writes_eq_canon _ _ _ (cover0_B_5 c i a0 h0 a1 h1 a2 h2 a3 h3 a4 h4 a5 h5 hc x0 x1 x2 x3 x4 xo)]
  unfold kernelRun0_B
  dsimp only
  sl_unfold_words
  rw [View.canon_cons_unit_zero (S := S448x480) hz]
  simp only [View.readAt_eq_ld, View.readCov_cons_toLoadRect, View.ld_unit_zero (S := S448x480) hz, h5.read_unread]
  exact rfl

end Cert.KernelIdeal.WgradValue

end
-- ==== Proof.PointSum.lean ====
/-
  What one grid point adds, as a sum over its 16384 tokens.
-/
module

public import proofs.«01_k».proof.Proof.Point

@[expose] public section

set_option maxRecDepth 16384

noncomputable section

namespace Cert.KernelIdeal.WgradValue

open Cert.KernelIdeal Cert.KernelIdeal.Gen Cert.Wgrad Idealize.ShloMosaic Idealize.ShloMosaic.ValueIdx
open scoped BigOperators

/-- Token `k` of tile `n` of step `s`, counted inside the point. -/
abbrev tok (s : Fin 8) (n : Fin 16) (k : Fin 128) : Fin 16384 :=
  ⟨128 * (16 * s.val + n.val) + k.val, by have := s.isLt; have := n.isLt; have := k.isLt; omega⟩

/-- Tile `n` of step `s`, counted inside the point. -/
abbrev blk (s : Fin 8) (n : Fin 16) : Fin 128 := ⟨16 * s.val + n.val, by have := s.isLt; have := n.isLt; omega⟩

theorem codes_apply {φ : FTy} (M : Nat) (x : FVec Ideal ⟨3, ![1, M, 16384]⟩ φ) (s : Fin 8) (n : Fin 16) (i : Fin M) (k : Fin 128) :
    codes M x s n (ix3 0 i k) = x (ix3 0 i (tok s n k)) := by
  show x _ = x _
  congr 1
  funext a
  apply Fin.ext
  match a with
  | ⟨0, _⟩ => rfl
  | ⟨1, _⟩ => show 0 + 1 * i.val = i.val; omega
  | ⟨2, _⟩ => show 128 * (16 * s.val + n.val) + 1 * k.val = 128 * (16 * s.val + n.val) + k.val; omega

theorem leftTile_apply (x0 : Vec Ideal S1x448x16384 .fp8e4m3) (x1 : Vec Ideal S1x448x128 .i8) (s : Fin 8) (n : Fin 16)
    (i : Fin 448) (k : Fin 128) :
    leftTile x0 x1 s n (ix2 i k) = x0 (ix3 0 i (tok s n k)) * shiftedScale (x1 (ix3 0 i (blk s n))) :=
  (tile_apply 448 224 .fp8e4m3 x1 (codes 448 x0 s n) (blk s n) _ _ _ _ _ _ _ _ _ _ i k).trans
    (congrArg (· * _) (codes_apply 448 x0 s n i k))

theorem rightTile_apply (x2 : Vec Ideal S1x480x16384 .fp8e5m2) (x3 : Vec Ideal S1x480x128 .i8) (s : Fin 8) (n : Fin 16)
    (o : Fin 480) (k : Fin 128) :
    rightTile x2 x3 s n (ix2 o k) = x2 (ix3 0 o (tok s n k)) * shiftedScale (x3 (ix3 0 o (blk s n))) :=
  (tile_apply 480 240 .fp8e5m2 x3 (codes 480 x2 s n) (blk s n) _ _ _ _ _ _ _ _ _ _ o k).trans
    (congrArg (· * _) (codes_apply 480 x2 s n o k))

/-- What step `s` adds at row `i` and column `o`. -/
def stepSum (x0 : Vec Ideal S1x448x16384 .fp8e4m3) (x1 : Vec Ideal S1x448x128 .i8) (x2 : Vec Ideal S1x480x16384 .fp8e5m2)
    (x3 : Vec Ideal S1x480x128 .i8) (i : Fin 448) (o : Fin 480) (s : Fin 8) : EReal :=
  ∑ n : Fin 16, ∑ k : Fin 128, (x0 (ix3 0 i (tok s n k)) * shiftedScale (x1 (ix3 0 i (blk s n))))
    * (x2 (ix3 0 o (tok s n k)) * shiftedScale (x3 (ix3 0 o (blk s n))))

theorem pointStep_apply (x0 : Vec Ideal S1x448x16384 .fp8e4m3) (x1 : Vec Ideal S1x448x128 .i8)
    (x2 : Vec Ideal S1x480x16384 .fp8e5m2) (x3 : Vec Ideal S1x480x128 .i8) (s : Fin 8) (acc : Vec Ideal S448x480 .f32)
    (i : Fin 448) (o : Fin 480) :
    pointStep x0 x1 x2 x3 s acc (ix2 i o) = acc (ix2 i o) + stepSum x0 x1 x2 x3 i o s := by
  refine (step_apply _ _ acc _ _ _ i o).trans (congrArg (acc (ix2 i o) + ·) ?_)
  unfold stepSum
  refine Finset.sum_congr rfl fun n _ => Finset.sum_congr rfl fun k _ => ?_
  rw [leftTile_apply, rightTile_apply]

/-- A point adds the eight steps' sums. -/
theorem pointOut_apply (x0 : Vec Ideal S1x448x16384 .fp8e4m3) (x1 : Vec Ideal S1x448x128 .i8)
    (x2 : Vec Ideal S1x480x16384 .fp8e5m2) (x3 : Vec Ideal S1x480x128 .i8) (acc : Vec Ideal S448x480 .f32)
    (i : Fin 448) (o : Fin 480) :
    pointOut x0 x1 x2 x3 acc (ix2 i o) = acc (ix2 i o) + ∑ s : Fin 8, stepSum x0 x1 x2 x3 i o s := by
  unfold pointOut
  iterate 8 rw [pointStep_apply]
  rw [Fin.sum_univ_eight]
  simp only [add_assoc]

end Cert.KernelIdeal.WgradValue

end
-- ==== Proof.Blocks.lean ====
/-
  What the kernel reads at a grid point, entry by entry, in the arrays it was given.

  The four operands are transposed before the kernel starts, so that rows come before tokens. Point `t` reads batch entry
  `t / 8` and the 16384 tokens (128 blocks of exponents) from `16384 · (t % 8)` on; the initial gradient it reads whole.
-/
module

public import proofs.«01_k».proof.Proof.Gen.KernelIdeal.Value
public import Idealize.ShloMosaic.Lib.ValueIdx

@[expose] public section

set_option maxRecDepth 16384

noncomputable section

namespace Cert.KernelIdeal.WgradValue

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- A transposed array read at batch entry, row and token. -/
theorem swapped_apply {α : Type} {M T : Nat} (x : (⟨3, ![6, T, M]⟩ : Shape).Idx → α)
    (h : (⟨3, ![6, T, M]⟩ : Shape).Transposes [0, 2, 1] ⟨3, ![6, M, T]⟩) (b : Fin 6) (i : Fin M) (q : Fin T) :
    transpose ⟨3, ![6, M, T]⟩ [0, 2, 1] x h (ix3 b i q) = x (ix3 b q i) := by
  refine transpose_apply _ x h _ _ fun a => ?_
  match a with
  | ⟨0, _⟩ => rfl
  | ⟨1, _⟩ => rfl
  | ⟨2, _⟩ => rfl

theorem V_main_v0 (c : Dev nD) : V m c main_v0
    = transpose S6x448x131072 [0, 2, 1] (m ((c : Thread nD τ).loc main_arg0)) transposes_S6x131072x448_S6x448x131072_0_2_1 := by
  show StableHlo.after hostOps0 _ (Proc.devRef .tc main_v0) = _
  after_results

theorem V_main_v1 (c : Dev nD) : V m c main_v1
    = transpose S6x448x1024 [0, 2, 1] (m ((c : Thread nD τ).loc main_arg1)) transposes_S6x1024x448_S6x448x1024_0_2_1 := by
  show StableHlo.after hostOps0 _ (Proc.devRef .tc main_v1) = _
  after_results

theorem V_main_v2 (c : Dev nD) : V m c main_v2
    = transpose S6x480x131072 [0, 2, 1] (m ((c : Thread nD τ).loc main_arg2)) transposes_S6x131072x480_S6x480x131072_0_2_1 := by
  show StableHlo.after hostOps0 _ (Proc.devRef .tc main_v2) = _
  after_results

theorem V_main_v3 (c : Dev nD) : V m c main_v3
    = transpose S6x480x1024 [0, 2, 1] (m ((c : Thread nD τ).loc main_arg3)) transposes_S6x1024x480_S6x480x1024_0_2_1 := by
  show StableHlo.after hostOps0 _ (Proc.devRef .tc main_v3) = _
  after_results

theorem index0 : ∀ t : Fin grid0.N, win0_0.index t 0 = t.val / 8 ∧ win0_0.index t 1 = 0 ∧ win0_0.index t 2 = t.val % 8 := by
  decide +kernel
theorem index1 : ∀ t : Fin grid0.N, win0_1.index t 0 = t.val / 8 ∧ win0_1.index t 1 = 0 ∧ win0_1.index t 2 = t.val % 8 := by
  decide +kernel
theorem index2 : ∀ t : Fin grid0.N, win0_2.index t 0 = t.val / 8 ∧ win0_2.index t 1 = 0 ∧ win0_2.index t 2 = t.val % 8 := by
  decide +kernel
theorem index3 : ∀ t : Fin grid0.N, win0_3.index t 0 = t.val / 8 ∧ win0_3.index t 1 = 0 ∧ win0_3.index t 2 = t.val % 8 := by
  decide +kernel
theorem index4 : ∀ t : Fin grid0.N, win0_4.index t 0 = 0 ∧ win0_4.index t 1 = 0 := by decide +kernel

theorem points (t : Fin cfg0.N) : t.val < 48 := lt_of_lt_of_eq t.isLt (show cfg0.N = 48 from N_0)

/-- The batch entry of point `t`. -/
abbrev entry (t : Fin cfg0.N) : Fin 6 := ⟨t.val / 8, by have := points t; omega⟩

/-- Token `q` of point `t`, counted inside the batch entry. -/
abbrev place (t : Fin cfg0.N) (q : Fin 16384) : Fin 131072 := ⟨16384 * (t.val % 8) + q.val, by have := q.isLt; omega⟩

/-- Block `q` of point `t`, counted inside the batch entry. -/
abbrev group (t : Fin cfg0.N) (q : Fin 128) : Fin 1024 := ⟨128 * (t.val % 8) + q.val, by have := q.isLt; omega⟩

theorem iblk0_apply (c : Dev nD) (t : Fin cfg0.N) (i : Fin 448) (q : Fin 16384) :
    (iblk m c 0 t : Vec Ideal S1x448x16384 .fp8e4m3) (ix3 0 i q) = m ((c : Thread nD τ).loc main_arg0) (ix3 (entry t) (place t q) i) := by
  refine Eq.trans ?_ (swapped_apply (m ((c : Thread nD τ).loc main_arg0)) transposes_S6x131072x448_S6x448x131072_0_2_1 (entry t) i (place t q))
  unfold iblk
  rw [View.read_apply]
  show V m c main_v0 _ = _
  rw [V_main_v0]
  congr 1
  funext a
  apply Fin.ext
  obtain ⟨e0, e1, e2⟩ := index0 t
  match a with
  | ⟨0, _⟩ => show win0_0.index t 0 * 1 + 1 * 0 = t.val / 8; rw [e0]; omega
  | ⟨1, _⟩ => show win0_0.index t 1 * 448 + 1 * i.val = i.val; rw [e1]; omega
  | ⟨2, _⟩ => show win0_0.index t 2 * 16384 + 1 * q.val = 16384 * (t.val % 8) + q.val; rw [e2]; omega

theorem iblk1_apply (c : Dev nD) (t : Fin cfg0.N) (i : Fin 448) (q : Fin 128) :
    (iblk m c 1 t : Vec Ideal S1x448x128 .i8) (ix3 0 i q) = m ((c : Thread nD τ).loc main_arg1) (ix3 (entry t) (group t q) i) := by
  refine Eq.trans ?_ (swapped_apply (m ((c : Thread nD τ).loc main_arg1)) transposes_S6x1024x448_S6x448x1024_0_2_1 (entry t) i (group t q))
  unfold iblk
  rw [View.read_apply]
  show V m c main_v1 _ = _
  rw [V_main_v1]
  congr 1
  funext a
  apply Fin.ext
  obtain ⟨e0, e1, e2⟩ := index1 t
  match a with
  | ⟨0, _⟩ => show win0_1.index t 0 * 1 + 1 * 0 = t.val / 8; rw [e0]; omega
  | ⟨1, _⟩ => show win0_1.index t 1 * 448 + 1 * i.val = i.val; rw [e1]; omega
  | ⟨2, _⟩ => show win0_1.index t 2 * 128 + 1 * q.val = 128 * (t.val % 8) + q.val; rw [e2]; omega

theorem iblk2_apply (c : Dev nD) (t : Fin cfg0.N) (i : Fin 480) (q : Fin 16384) :
    (iblk m c 2 t : Vec Ideal S1x480x16384 .fp8e5m2) (ix3 0 i q) = m ((c : Thread nD τ).loc main_arg2) (ix3 (entry t) (place t q) i) := by
  refine Eq.trans ?_ (swapped_apply (m ((c : Thread nD τ).loc main_arg2)) transposes_S6x131072x480_S6x480x131072_0_2_1 (entry t) i (place t q))
  unfold iblk
  rw [View.read_apply]
  show V m c main_v2 _ = _
  rw [V_main_v2]
  congr 1
  funext a
  apply Fin.ext
  obtain ⟨e0, e1, e2⟩ := index2 t
  match a with
  | ⟨0, _⟩ => show win0_2.index t 0 * 1 + 1 * 0 = t.val / 8; rw [e0]; omega
  | ⟨1, _⟩ => show win0_2.index t 1 * 480 + 1 * i.val = i.val; rw [e1]; omega
  | ⟨2, _⟩ => show win0_2.index t 2 * 16384 + 1 * q.val = 16384 * (t.val % 8) + q.val; rw [e2]; omega

theorem iblk3_apply (c : Dev nD) (t : Fin cfg0.N) (i : Fin 480) (q : Fin 128) :
    (iblk m c 3 t : Vec Ideal S1x480x128 .i8) (ix3 0 i q) = m ((c : Thread nD τ).loc main_arg3) (ix3 (entry t) (group t q) i) := by
  refine Eq.trans ?_ (swapped_apply (m ((c : Thread nD τ).loc main_arg3)) transposes_S6x1024x480_S6x480x1024_0_2_1 (entry t) i (group t q))
  unfold iblk
  rw [View.read_apply]
  show V m c main_v3 _ = _
  rw [V_main_v3]
  congr 1
  funext a
  apply Fin.ext
  obtain ⟨e0, e1, e2⟩ := index3 t
  match a with
  | ⟨0, _⟩ => show win0_3.index t 0 * 1 + 1 * 0 = t.val / 8; rw [e0]; omega
  | ⟨1, _⟩ => show win0_3.index t 1 * 480 + 1 * i.val = i.val; rw [e1]; omega
  | ⟨2, _⟩ => show win0_3.index t 2 * 128 + 1 * q.val = 128 * (t.val % 8) + q.val; rw [e2]; omega

theorem iblk4_apply (c : Dev nD) (t : Fin cfg0.N) (i : Fin 448) (o : Fin 480) :
    (iblk m c 4 t : Vec Ideal S448x480 .f32) (ix2 i o) = m ((c : Thread nD τ).loc main_arg4) (ix2 i o) := by
  unfold iblk
  rw [View.read_apply]
  show V m c main_arg4 _ = _
  rw [V_main_arg4]
  congr 1
  funext a
  apply Fin.ext
  obtain ⟨e0, e1⟩ := index4 t
  match a with
  | ⟨0, _⟩ => show win0_4.index t 0 * 448 + 1 * i.val = i.val; rw [e0]; omega
  | ⟨1, _⟩ => show win0_4.index t 1 * 480 + 1 * o.val = o.val; rw [e1]; omega

end Cert.KernelIdeal.WgradValue

end
-- ==== Proof.Tokens.lean ====
/-
  The equation's mathematics: the gradient as one sum over all tokens.

  A token is numbered `r = 131072 · batch + position`. Its dequantised element in row `i` is its code times the scale of
  the block of 128 positions it lies in (`factor`); the gradient is the initial one plus the sum over the tokens of the
  products of the two operands' elements (`gradient`). The scale is left open: the kernel's reading of an exponent and
  the reference's give the same gradient where they agree on the exponents (`gradient_congr`). The kernel takes the
  tokens point by point, step by step and tile by tile (`tokens_split`).
-/
module

public import proofs.«01_k».proof.Proof.Scale
public import Idealize.ShloMosaic.Lib.ValueIdx

@[expose] public section

noncomputable section

namespace Cert.Wgrad

open Idealize.ShloMosaic Idealize.ShloMosaic.ValueIdx
open scoped BigOperators

/-- The batch entry of token `r`. -/
abbrev batchOf (r : ℕ) : Fin 6 := ⟨r / 131072 % 6, Nat.mod_lt _ (by norm_num)⟩

/-- The position of token `r` in its batch entry. -/
abbrev posOf (r : ℕ) : Fin 131072 := ⟨r % 131072, Nat.mod_lt _ (by norm_num)⟩

/-- The block of 128 positions token `r` lies in. -/
abbrev blockOf (r : ℕ) : Fin 1024 := ⟨r % 131072 / 128, by have := Nat.mod_lt r (show 131072 > 0 by norm_num); omega⟩

/-- The dequantised element of token `r` in row `i`. -/
def factor {M : Nat} {φ : FTy} (scale : BitVec 8 → EReal) (codes : FVec Ideal ⟨3, ![6, 131072, M]⟩ φ)
    (exps : IVec ⟨3, ![6, 1024, M]⟩ 8) (r : ℕ) (i : Fin M) : EReal :=
  codes (ix3 (batchOf r) (posOf r) i) * scale (exps (ix3 (batchOf r) (blockOf r) i))

/-- What token `r` adds at row `i` and column `o`. -/
def token (scale : BitVec 8 → EReal) (a0 : FVec Ideal ⟨3, ![6, 131072, 448]⟩ .fp8e4m3) (a1 : IVec ⟨3, ![6, 1024, 448]⟩ 8)
    (a2 : FVec Ideal ⟨3, ![6, 131072, 480]⟩ .fp8e5m2) (a3 : IVec ⟨3, ![6, 1024, 480]⟩ 8) (i : Fin 448) (o : Fin 480)
    (r : ℕ) : EReal :=
  factor scale a0 a1 r i * factor scale a2 a3 r o

/-- The gradient. -/
def gradient (scale : BitVec 8 → EReal) (a0 : FVec Ideal ⟨3, ![6, 131072, 448]⟩ .fp8e4m3) (a1 : IVec ⟨3, ![6, 1024, 448]⟩ 8)
    (a2 : FVec Ideal ⟨3, ![6, 131072, 480]⟩ .fp8e5m2) (a3 : IVec ⟨3, ![6, 1024, 480]⟩ 8)
    (g : FVec Ideal ⟨2, ![448, 480]⟩ .f32) (i : Fin 448) (o : Fin 480) : EReal :=
  g (ix2 i o) + ∑ r : Fin 786432, token scale a0 a1 a2 a3 i o r.val

/-- Two readings of the exponents that agree on every exponent in the arrays give the same gradient. -/
theorem gradient_congr (p q : BitVec 8 → EReal) (a0 : FVec Ideal ⟨3, ![6, 131072, 448]⟩ .fp8e4m3)
    (a1 : IVec ⟨3, ![6, 1024, 448]⟩ 8) (a2 : FVec Ideal ⟨3, ![6, 131072, 480]⟩ .fp8e5m2) (a3 : IVec ⟨3, ![6, 1024, 480]⟩ 8)
    (g : FVec Ideal ⟨2, ![448, 480]⟩ .f32) (h1 : ∀ j, p (a1 j) = q (a1 j)) (h3 : ∀ j, p (a3 j) = q (a3 j))
    (i : Fin 448) (o : Fin 480) : gradient p a0 a1 a2 a3 g i o = gradient q a0 a1 a2 a3 g i o := by
  unfold gradient token factor
  simp only [h1, h3]

/-- A sum over `m · n` numbers, `n` at a time. -/
theorem sum_split (m n : ℕ) (f : ℕ → EReal) :
    ∑ r : Fin (m * n), f r.val = ∑ a : Fin m, ∑ b : Fin n, f (n * a.val + b.val) := by
  rw [← Equiv.sum_comp (finProdFinEquiv (m := m) (n := n)), Fintype.sum_prod_type]
  refine Finset.sum_congr rfl fun a _ => Finset.sum_congr rfl fun b _ => congrArg f ?_
  show b.val + n * a.val = _
  omega

/-- The sum over all tokens: over the 48 points, the eight steps of each, the sixteen tiles of each, the 128 tokens of each. -/
theorem tokens_split (f : ℕ → EReal) :
    ∑ r : Fin 786432, f r.val
      = ∑ t ∈ Finset.range 48, ∑ s : Fin 8, ∑ n : Fin 16, ∑ k : Fin 128, f (16384 * t + 128 * (16 * s.val + n.val) + k.val) := by
  refine (sum_split 48 16384 f).trans ?_
  rw [Finset.sum_range]
  refine Finset.sum_congr rfl fun t _ => ?_
  refine (sum_split 8 2048 fun q => f (16384 * t.val + q)).trans (Finset.sum_congr rfl fun s _ => ?_)
  refine (sum_split 16 128 fun q => f (16384 * t.val + (2048 * s.val + q))).trans
    (Finset.sum_congr rfl fun n _ => Finset.sum_congr rfl fun k _ => congrArg f ?_)
  omega

end Cert.Wgrad

end
-- ==== Proof.Array.lean ====
/-
  What the kernel's result array holds at the end: the gradient, with the kernel's reading of the exponents.

  After point `t` the result holds the initial gradient plus what the points up to `t` added (`outsAt_apply`); after the
  last one that is the gradient (`outsAt_last`), and the last point writes the whole array back (`final`).
-/
module

public import proofs.«01_k».proof.Proof.PointSum
public import proofs.«01_k».proof.Proof.Blocks
public import proofs.«01_k».proof.Proof.Tokens

@[expose] public section

set_option maxRecDepth 16384

noncomputable section

namespace Cert.KernelIdeal.WgradValue

open Cert.KernelIdeal Cert.KernelIdeal.Gen Cert.KernelIdeal.Value Cert.Wgrad Idealize.ShloMosaic Idealize.ShloMosaic.TcCoe
open Idealize.ShloMosaic.ValueIdx Idealize.SL.Sem
open scoped BigOperators

variable (m : (ℓ : Loc nD τ sig) → Buf (Elt Ideal) ℓ) (ρ : Dev nD → PrngReg)

/-- The initial gradient. -/
abbrev initial (c : Dev nD) : FVec Ideal S448x480 .f32 := m ((c : Thread nD τ).loc main_arg4)

/-- What token `r` adds, with the kernel's reading of the exponents in the launched arrays. -/
abbrev tokenOf (c : Dev nD) (i : Fin 448) (o : Fin 480) : ℕ → EReal :=
  token shiftedScale (m ((c : Thread nD τ).loc main_arg0)) (m ((c : Thread nD τ).loc main_arg1))
    (m ((c : Thread nD τ).loc main_arg2)) (m ((c : Thread nD τ).loc main_arg3)) i o

/-- What point `t` adds. -/
def pointTokens (c : Dev nD) (i : Fin 448) (o : Fin 480) (t : ℕ) : EReal :=
  ∑ s : Fin 8, ∑ n : Fin 16, ∑ k : Fin 128, tokenOf m c i o (16384 * t + 128 * (16 * s.val + n.val) + k.val)

theorem point_eq (c : Dev nD) (t : Fin cfg0.N) (i : Fin 448) (o : Fin 480) :
    ∑ s : Fin 8, stepSum (iblk m c 0 t) (iblk m c 1 t) (iblk m c 2 t) (iblk m c 3 t) i o s = pointTokens m c i o t.val := by
  refine Finset.sum_congr rfl fun s _ => Finset.sum_congr rfl fun n _ => Finset.sum_congr rfl fun k _ => ?_
  rw [iblk0_apply, iblk1_apply, iblk2_apply, iblk3_apply]
  have ht := points t
  have hs := s.isLt
  have hn := n.isLt
  have hk := k.isLt
  have eb : entry t = batchOf (16384 * t.val + 128 * (16 * s.val + n.val) + k.val) := Fin.ext (by
    show t.val / 8 = (16384 * t.val + 128 * (16 * s.val + n.val) + k.val) / 131072 % 6
    omega)
  have ep : place t (tok s n k) = posOf (16384 * t.val + 128 * (16 * s.val + n.val) + k.val) := Fin.ext (by
    show 16384 * (t.val % 8) + (128 * (16 * s.val + n.val) + k.val) = (16384 * t.val + 128 * (16 * s.val + n.val) + k.val) % 131072
    omega)
  have eg : group t (blk s n) = blockOf (16384 * t.val + 128 * (16 * s.val + n.val) + k.val) := Fin.ext (by
    show 128 * (t.val % 8) + (16 * s.val + n.val) = (16384 * t.val + 128 * (16 * s.val + n.val) + k.val) % 131072 / 128
    omega)
  rw [eb, ep, eg]
  rfl

/-- After point `n` the result holds the initial gradient plus what the points up to `n` added. -/
theorem outsAt_apply (c : Dev nD) (i : Fin 448) (o : Fin 480) : ∀ (n : ℕ) (h : n < cfg0.N),
    (outsAt0 m c n h : FVec Ideal S448x480 .f32) (ix2 i o)
      = initial m c (ix2 i o) + ∑ t ∈ Finset.range (n + 1), pointTokens m c i o t
  | 0, h => by
    rw [outsAt0_A m c ⟨0, h⟩ rfl, out_A, pointOut_apply, point_eq, Finset.sum_range_one]
    exact congrArg (· + pointTokens m c i o 0) (iblk4_apply m c ⟨0, h⟩ i o)
  | n + 1, h => by
    have hN := points ⟨n + 1, h⟩
    have hB : ¬(⟨n + 1, h⟩ : Fin cfg0.N).val % 48 = 0 := by dsimp only at hN ⊢; omega
    rw [outsAt0_B m c ⟨n + 1, h⟩ hB, out_B, pointOut_apply, point_eq, Finset.sum_range_succ _ (n + 1), ← add_assoc]
    exact congrArg (· + _) (outsAt_apply c i o n (Nat.lt_of_succ_lt h))

/-- The gradient, as contents of the result array. -/
abbrev result (c : Dev nD) : Buf (Elt Ideal) ((c : Thread nD τ).loc main_v4) := fun j : S448x480.Idx =>
  gradient shiftedScale (m ((c : Thread nD τ).loc main_arg0)) (m ((c : Thread nD τ).loc main_arg1))
    (m ((c : Thread nD τ).loc main_arg2)) (m ((c : Thread nD τ).loc main_arg3)) (m ((c : Thread nD τ).loc main_arg4)) (j 0) (j 1)

theorem idx_eq (j : S448x480.Idx) : j = ix2 (j 0) (j 1) := by
  funext a
  match a with
  | ⟨0, _⟩ => rfl
  | ⟨1, _⟩ => rfl

theorem outsAt_last (c : Dev nD) (h : 47 < cfg0.N) : outsAt0 m c 47 h = result m c := by
  funext j
  rw [idx_eq j]
  refine (outsAt_apply m c (j 0) (j 1) 47 h).trans ?_
  show _ = gradient _ _ _ _ _ _ (j 0) (j 1)
  unfold gradient
  rw [tokens_split]
  rfl

/-- The last point. -/
abbrev last : Fin cfg0.N := ⟨47, by rw [show cfg0.N = 48 from N_0]; decide⟩

/-- The one write-back, at the last point, writes the gradient. -/
theorem flushed_eq (c : Dev nD) (t : Fin cfg0.N) (hf : (cfg0.win 5).flush t = true) :
    (dats m 0 c).flushed 5 t = ((cfg0.win 5).blk t).view.read (Elt Ideal) (result m c) := by
  have h47 : t.val = 47 := by have := (flush0_5 t).mp hf; have := points t; omega
  obtain rfl : t = last := Fin.ext h47
  rw [flushed5]
  show (cfg0.win 5).cut (grid0.coords last) (outsAt0 m c 47 _) = _
  rw [outsAt_last]
  have hz' : (fun a => win0_5.index last a * main_v4.ty.shape.size a) = fun _ => 0 := funext fun a => by fin_cases a <;> decide +kernel
  exact (Memref.read_access_unit_zero (Elt Ideal) main_v4 hz' (fun a => by rw [congrFun hz' a]; simp) (result m c)).symm

/-- The result array ends holding the gradient. -/
theorem final (c : Dev nD) : (dats m 0 c).arrAt 5 cfg0.N = result m c :=
  (dats m 0 c).arrAt_eq_of_cover 5 (result m c) (flushed_eq m c) fun i =>
    ⟨last, (flush0_5 last).mpr rfl, by
      show i ∈ ((View.whole main_v4).slice (win0_5.rect last)).set
      rw [View.set_slice_whole, Rect.mem_set_unit]
      intro a
      have h0 : (i 0 : Nat) < 448 := (i 0).isLt
      have h1 : (i 1 : Nat) < 480 := (i 1).isLt
      match a with
      | ⟨0, _⟩ => show win0_5.index last 0 * win0_5.size 0 ≤ (i 0 : Nat) ∧ (i 0 : Nat) < win0_5.index last 0 * win0_5.size 0 + win0_5.xsize (grid0.coords last) 0
                  rw [show win0_5.index last 0 * win0_5.size 0 = 0 from by decide +kernel, show win0_5.xsize (grid0.coords last) 0 = 448 from by decide +kernel]; omega
      | ⟨1, _⟩ => show win0_5.index last 1 * win0_5.size 1 ≤ (i 1 : Nat) ∧ (i 1 : Nat) < win0_5.index last 1 * win0_5.size 1 + win0_5.xsize (grid0.coords last) 1
                  rw [show win0_5.index last 1 * win0_5.size 1 = 0 from by decide +kernel, show win0_5.xsize (grid0.coords last) 1 = 480 from by decide +kernel]; omega⟩

/-- The run: the result array holds the gradient, the arguments are unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (run_blocks m ρ)

end Cert.KernelIdeal.WgradValue

end
-- ==== Proof.Reference.lean ====
/-
  What the reference computes: the gradient, with the scale of an exponent `e` read as the power `2^(e - 127)`.

  The reference dequantises both operands whole and contracts them in one product over batch entry, block and place in
  the block; the row-major position of these three is the token's number.
-/
module

public import proofs.«01_k».proof.Proof.Gen.ReferenceIdeal.Value
public import proofs.«01_k».proof.Proof.Tokens
public import Idealize.ShloMosaic.Lib.MatmulPlain

@[expose] public section

set_option maxRecDepth 16384

noncomputable section

namespace Cert.ReferenceIdeal.WgradValue

open Cert.ReferenceIdeal Cert.ReferenceIdeal.Gen Cert.ReferenceIdeal.Value Cert.Wgrad Idealize.ShloMosaic Idealize.ShloMosaic.ValueIdx
open scoped BigOperators

/-- One dequantised operand, its positions in blocks. -/
def operand (M : Nat) (φ : FTy) (codes : FVec Ideal ⟨3, ![6, 131072, M]⟩ φ) (exps : IVec ⟨3, ![6, 1024, M]⟩ 8)
    (h1 : (⟨3, ![6, 131072, M]⟩ : Shape).ShapeCasts ⟨4, ![6, 1024, 128, M]⟩) (hφ : φ.bits < FTy.bf16.bits) (hw : 8 < 32)
    (ht : FTy.bf16.bits < FTy.f32.bits) (h2 : (⟨3, ![6, 1024, M]⟩ : Shape).ShapeCasts ⟨4, ![6, 1024, 1, M]⟩)
    (hb : (⟨4, ![6, 1024, 1, M]⟩ : Shape).Broadcasts ⟨4, ![6, 1024, 128, M]⟩) : FVec Ideal ⟨4, ![6, 1024, 128, M]⟩ .bf16 :=
  mulf (F := Ideal) (φ := .bf16) (extf .bf16 (shapeCast ⟨4, ![6, 1024, 128, M]⟩ codes h1) hφ)
    (broadcastTo ⟨4, ![6, 1024, 128, M]⟩ (shapeCast ⟨4, ![6, 1024, 1, M]⟩
      (truncf (F := Ideal) .bf16 (exp2 (sitofp (F := Ideal) .f32 (subi (extui 32 exps hw) (broadcast ⟨3, ![6, 1024, M]⟩ 127#32)))) ht) h2) hb)

/-- The dequantised operand at batch entry `b`, block `n`, place `t` in the block and row `i`. -/
theorem operand_apply (M : Nat) (φ : FTy) (codes : FVec Ideal ⟨3, ![6, 131072, M]⟩ φ) (exps : IVec ⟨3, ![6, 1024, M]⟩ 8)
    (h1 hφ hw ht h2 hb) (b : Fin 6) (n : Fin 1024) (t : Fin 128) (i : Fin M) :
    operand M φ codes exps h1 hφ hw ht h2 hb (ix4 b n t i)
      = factor powerScale codes exps ((b.val * 1024 + n.val) * 128 + t.val) i := by
  have hbl := b.isLt
  have hn := n.isLt
  have htl := t.isLt
  have eb : batchOf ((b.val * 1024 + n.val) * 128 + t.val) = b := Fin.ext (by
    show ((b.val * 1024 + n.val) * 128 + t.val) / 131072 % 6 = b.val
    omega)
  have en : blockOf ((b.val * 1024 + n.val) * 128 + t.val) = n := Fin.ext (by
    show ((b.val * 1024 + n.val) * 128 + t.val) % 131072 / 128 = n.val
    omega)
  unfold operand factor
  rw [eb, en]
  show shapeCast _ codes h1 _ * broadcastTo _ _ hb _ = codes _ * _
  rw [shapeCast_apply _ h1 _ (ix3 b (posOf ((b.val * 1024 + n.val) * 128 + t.val)) i) (by
      rw [Shape.rowMajor_val_four, Shape.rowMajor_val_three]
      show (b.val * 131072 + ((b.val * 1024 + n.val) * 128 + t.val) % 131072) * M + i.val
        = ((b.val * 1024 + n.val) * 128 + t.val) * M + i.val
      congr 2
      omega),
    broadcastTo_apply _ hb _ (ix4 b n (0 : Fin 1) i) (by
      intro a
      match a with
      | ⟨0, _⟩ => rfl
      | ⟨1, _⟩ => rfl
      | ⟨2, _⟩ => rfl
      | ⟨3, _⟩ =>
        show i.val = if M = 1 then 0 else i.val
        split
        · have := i.isLt; omega
        · rfl),
    shapeCast_apply _ h2 _ (ix3 b n i) (by
      rw [Shape.rowMajor_val_four, Shape.rowMajor_val_three]
      show (b.val * 1024 + n.val) * M + i.val = ((b.val * 1024 + n.val) * 1 + 0) * M + i.val
      congr 2
      omega)]
  rfl

/-- The contraction's index: batch entry, block and place in the block. -/
abbrev Place : Type := (dot_S6x1024x128x448_S6x1024x128x480_S448x480_012_012_3_3_n_n).contr.Idx

/-- The batch entry of a contraction index. -/
abbrev batchAt (k : Place) : Fin 6 := k ⟨0, by decide⟩

/-- The block of a contraction index. -/
abbrev blockAt (k : Place) : Fin 1024 := k ⟨1, by decide⟩

/-- The place in the block of a contraction index. -/
abbrev placeAt (k : Place) : Fin 128 := k ⟨2, by decide⟩

/-- The token's number: the row-major position of a contraction index. -/
def number : Place ≃ Fin 786432 :=
  (dot_S6x1024x128x448_S6x1024x128x480_S448x480_012_012_3_3_n_n).contr.rowMajor.trans (finCongr (by decide))

theorem number_val (k : Place) : (number k).val = ((batchAt k).val * 1024 + (blockAt k).val) * 128 + (placeAt k).val := by
  have s1 : (dot_S6x1024x128x448_S6x1024x128x480_S448x480_012_012_3_3_n_n).contr.size ⟨1, by decide⟩ = 1024 := rfl
  have s2 : (dot_S6x1024x128x448_S6x1024x128x480_S448x480_012_012_3_3_n_n).contr.size ⟨2, by decide⟩ = 128 := rfl
  have h := Shape.rowMajor_val_three (d := (dot_S6x1024x128x448_S6x1024x128x480_S448x480_012_012_3_3_n_n).contr.size) k
  exact h.trans (congrArg₂ (fun a b => ((batchAt k).val * a + (blockAt k).val) * b + (placeAt k).val) s1 s2)

/-- The contraction over the tokens at row `i` and column `o`. -/
theorem product_apply (lhs : FVec Ideal S6x1024x128x448 .bf16) (rhs : FVec Ideal S6x1024x128x480 .bf16) (acc : FVec Ideal S448x480 .f32)
    (i : Fin 448) (o : Fin 480) :
    FloatOps.matmul (F := Ideal) dot_S6x1024x128x448_S6x1024x128x480_S448x480_012_012_3_3_n_n none lhs rhs acc (ix2 i o)
      = acc (ix2 i o) + ∑ k : Place, lhs (ix4 (batchAt k) (blockAt k) (placeAt k) i) * rhs (ix4 (batchAt k) (blockAt k) (placeAt k) o) := by
  rw [Ideal.matmul_apply]
  refine congrArg (acc (ix2 i o) + ·) (Finset.sum_congr rfl fun k _ => congrArg₂ (fun a b => lhs a * rhs b) ?_ ?_)
  · funext a; apply Fin.ext
    match a with
    | ⟨0, _⟩ => rfl
    | ⟨1, _⟩ => rfl
    | ⟨2, _⟩ => rfl
    | ⟨3, _⟩ => rfl
  · funext a; apply Fin.ext
    match a with
    | ⟨0, _⟩ => rfl
    | ⟨1, _⟩ => rfl
    | ⟨2, _⟩ => rfl
    | ⟨3, _⟩ => rfl

/-- The reference's result is the gradient. -/
theorem G5_apply (a0 : Vec Ideal S6x131072x448 .fp8e4m3) (a1 : Vec Ideal S6x1024x448 .i8) (a2 : Vec Ideal S6x131072x480 .fp8e5m2)
    (a3 : Vec Ideal S6x1024x480 .i8) (a4 : Vec Ideal S448x480 .f32) (i : Fin 448) (o : Fin 480) :
    G5 a0 a1 a2 a3 a4 (ix2 i o) = gradient powerScale a0 a1 a2 a3 a4 i o := by
  unfold gradient
  show a4 (ix2 i o) + FloatOps.matmul (F := Ideal) dot_S6x1024x128x448_S6x1024x128x480_S448x480_012_012_3_3_n_n none
      (operand 448 .fp8e4m3 a0 a1 shapeCasts_S6x131072x448_S6x1024x128x448 bitsLt_fp8e4m3_bf16 natLt_8_32 bitsLt_bf16_f32
        shapeCasts_S6x1024x448_S6x1024x1x448 broadcasts_S6x1024x1x448_S6x1024x128x448)
      (operand 480 .fp8e5m2 a2 a3 shapeCasts_S6x131072x480_S6x1024x128x480 bitsLt_fp8e5m2_bf16 natLt_8_32 bitsLt_bf16_f32
        shapeCasts_S6x1024x480_S6x1024x1x480 broadcasts_S6x1024x1x480_S6x1024x128x480)
      (constant S448x480 .f32 0x00000000#32) (ix2 i o) = _
  rw [product_apply]
  refine congrArg (a4 (ix2 i o) + ·) ?_
  show Ideal.ofBits .f32 0x00000000#32 + _ = _
  rw [Ideal.ofBits_zero_f32, zero_add, ← Equiv.sum_comp number]
  refine Finset.sum_congr rfl fun k _ => ?_
  rw [operand_apply, operand_apply, number_val]
  rfl

end Cert.ReferenceIdeal.WgradValue

end
-- ==== Proof.Equation.lean ====
/-
  The equation: under the precondition the kernel and the reference compute the same gradient.

  The precondition says of both arrays of exponents that every exponent is at least 1 and at most 254. On these the
  kernel's reading and the reference's agree (`shiftedScale_eq`), so the two gradients do (`result_eq`).
-/
module

public import proofs.«01_k».proof.Defs
public import proofs.«01_k».proof.Proof.Array
public import proofs.«01_k».proof.Proof.Reference

@[expose] public section

set_option maxRecDepth 16384

noncomputable section

namespace Cert.Wgrad

open Idealize.ShloMosaic Idealize.ShloMosaic.TcCoe Idealize.ShloMosaic.ValueIdx Idealize.SL.Sem

/-- What the precondition's comparisons say of one exponent. -/
theorem in_range : ∀ e : BitVec 8, IntOp.andi (IntOp.cmpi .uge e 1#8) (IntOp.cmpi .ule e 254#8) = 1#1 → 1 ≤ e.toNat ∧ e.toNat ≤ 254 := by
  decide +kernel

/-- The side conditions of the precondition's program. -/
theorem preFacts : Cert.Pre_scales_normal.Facts := ⟨by decide, by decide⟩

/-- Both readings of an exponent that passes the precondition's comparisons agree. -/
theorem scale_eq (e : BitVec 8) (h : IntOp.andi (IntOp.cmpi .uge e 1#8) (IntOp.cmpi .ule e 254#8) = 1#1) : shiftedScale e = powerScale e :=
  shiftedScale_eq e (in_range e h).1 (in_range e h).2

end Cert.Wgrad

namespace Cert.Equation

open Idealize.ShloMosaic Idealize.ShloMosaic.TcCoe Idealize.ShloMosaic.ValueIdx Idealize.SL.Sem
open Cert.Wgrad

/-- What the kernel leaves in the result is the reference's function of the same five arrays. -/
theorem result_eq [Cert.Pre_scales_normal.Facts]
    (m : (ℓ : Loc Cert.KernelIdeal.nD Cert.KernelIdeal.τ Cert.KernelIdeal.sig) → Buf (Elt Ideal) ℓ)
    (pre : Cert.Pre_KernelIdeal_scales_normal m) (c : Dev Cert.KernelIdeal.nD) :
    Cert.KernelIdeal.WgradValue.result m c
      = Cert.ReferenceIdeal.Value.G5 (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) := by
  funext j
  rw [Cert.KernelIdeal.WgradValue.idx_eq j]
  exact (gradient_congr shiftedScale powerScale _ _ _ _ _
    (fun k => scale_eq _ (congrFun (pre c).1 k)) (fun k => scale_eq _ (congrFun (pre c).2 k)) (j 0) (j 1)).trans
    (Cert.ReferenceIdeal.WgradValue.G5_apply _ _ _ _ _ (j 0) (j 1)).symm

end Cert.Equation

end
-- ==== Proof.lean ====
/-
  The certificate: the three programs run and leave their arguments alone, the kernel's operations are the ones whose
  mathematics is read, and under the precondition the kernel and the reference leave the same array.

  What the kernel leaves is in `Proof/Array.lean`, what the reference leaves in `Proof/Reference.lean`, and that they
  are the same in `Proof/Equation.lean`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

/-- From arrays that satisfy the precondition, the kernel and the reference leave the same result. -/
theorem algebraic [hPre : Cert.Pre_scales_normal.Facts] :
    letI := Cert.KernelIdeal.Gen.facts
    letI := Cert.ReferenceIdeal.Gen.facts
    Cert.algebraic_KernelIdeal_ReferenceIdeal_pre_scales_normal := by
  intro m g m' g' pre same
  refine ⟨fun c => Cert.KernelIdeal.WgradValue.result m c, Cert.KernelIdeal.WgradValue.run m g,
    (θ_run _ _ _).mono (fun _ h c => ⟨(h c).1.trans ?_, (h c).2⟩) (Cert.ReferenceIdeal.Value.run m' g')⟩
  obtain ⟨h0, h1, h2, h3, h4⟩ := same c
  rw [h0, h1, h2, h3, h4]
  exact (Cert.Equation.result_eq m pre c).symm

theorem claim : Cert.Claim :=
  ⟨Cert.Kernel.Gen.facts, Cert.KernelIdeal.Gen.facts, Cert.ReferenceIdeal.Gen.facts, Cert.Wgrad.preFacts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    trivial,
    @algebraic Cert.Wgrad.preFacts⟩

end Cert.Proof

end
